-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x384x1024 : Shape := ⟨3, ![5, 384, 1024]⟩
abbrev S3584x128x2 : Shape := ⟨3, ![3584, 128, 2]⟩
abbrev S2x256x8 : Shape := ⟨3, ![2, 256, 8]⟩
abbrev S3584 : Shape := ⟨1, ![3584]⟩
abbrev S1920x1024 : Shape := ⟨2, ![1920, 1024]⟩
abbrev S2x3584x128 : Shape := ⟨3, ![2, 3584, 128]⟩
abbrev S2x8x256 : Shape := ⟨3, ![2, 8, 256]⟩
abbrev S1x3584 : Shape := ⟨2, ![1, 3584]⟩
abbrev S1920x3584 : Shape := ⟨2, ![1920, 3584]⟩
abbrev S2x256x128 : Shape := ⟨3, ![2, 256, 128]⟩
abbrev S1x256 : Shape := ⟨2, ![1, 256]⟩
abbrev S1920x256 : Shape := ⟨2, ![1920, 256]⟩
abbrev S128x128 : Shape := ⟨2, ![128, 128]⟩
abbrev S256x128 : Shape := ⟨2, ![256, 128]⟩
abbrev S1024x256 : Shape := ⟨2, ![1024, 256]⟩
abbrev S1x32x128 : Shape := ⟨3, ![1, 32, 128]⟩
abbrev S32x128 : Shape := ⟨2, ![32, 128]⟩
abbrev S8x128 : Shape := ⟨2, ![8, 128]⟩
abbrev S1x8x256 : Shape := ⟨3, ![1, 8, 256]⟩
abbrev S8x256 : Shape := ⟨2, ![8, 256]⟩
abbrev S2x256 : Shape := ⟨2, ![2, 256]⟩
abbrev S8x128x1 : Shape := ⟨3, ![8, 128, 1]⟩
abbrev S5x384x3584 : Shape := ⟨3, ![5, 384, 3584]⟩

abbrev nBuf : Space → Nat
  | .hbm => 10
  | .vmem => 11
  | .smem => 0
  | _ => 0

abbrev bufTy : (tb : Table) → Fin (tcTables nBuf tb) → BufTy
  | .hbm, ⟨0, _⟩ => ⟨S5x384x1024, .bf16⟩
  | .hbm, ⟨1, _⟩ => ⟨S3584x128x2, .i8⟩
  | .hbm, ⟨2, _⟩ => ⟨S2x256x8, .i8⟩
  | .hbm, ⟨3, _⟩ => ⟨S3584, .f32⟩
  | .hbm, ⟨4, _⟩ => ⟨S1920x1024, .bf16⟩
  | .hbm, ⟨5, _⟩ => ⟨S2x3584x128, .i8⟩
  | .hbm, ⟨6, _⟩ => ⟨S2x8x256, .i8⟩
  | .hbm, ⟨7, _⟩ => ⟨S1x3584, .f32⟩
  | .hbm, ⟨8, _⟩ => ⟨S1920x3584, .bf16⟩
  | .hbm, ⟨9, _⟩ => ⟨S5x384x3584, .bf16⟩
  | .local _ .vmem, ⟨0, _⟩ => ⟨S1920x1024, .bf16⟩
  | .local _ .vmem, ⟨1, _⟩ => ⟨S2x256x128, .i8⟩
  | .local _ .vmem, ⟨2, _⟩ => ⟨S2x256x128, .i8⟩
  | .local _ .vmem, ⟨3, _⟩ => ⟨S2x8x256, .i8⟩
  | .local _ .vmem, ⟨4, _⟩ => ⟨S1x256, .f32⟩
  | .local _ .vmem, ⟨5, _⟩ => ⟨S1x256, .f32⟩
  | .local _ .vmem, ⟨6, _⟩ => ⟨S1920x256, .bf16⟩
  | .local _ .vmem, ⟨7, _⟩ => ⟨S1920x256, .bf16⟩
  | .local _ .vmem, ⟨8, _⟩ => ⟨S128x128, .i32⟩
  | .local _ .vmem, ⟨9, _⟩ => ⟨S256x128, .i32⟩
  | .local _ .vmem, ⟨10, _⟩ => ⟨S1024x256, .bf16⟩
  | _, _ => ⟨S5x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x256x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x8x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1920x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S5x384x1024 : Shape := ⟨3, ![5, 384, 1024]⟩
abbrev S3584x128x2 : Shape := ⟨3, ![3584, 128, 2]⟩
abbrev S2x256x8 : Shape := ⟨3, ![2, 256, 8]⟩
abbrev S3584 : Shape := ⟨1, ![3584]⟩
abbrev S2 : Shape := ⟨1, ![2]⟩
abbrev S_ : Shape := ⟨0, ![]⟩
abbrev S3584x128x2x1 : Shape := ⟨4, ![3584, 128, 2, 1]⟩
abbrev S3584x128x2x2 : Shape := ⟨4, ![3584, 128, 2, 2]⟩
abbrev S3584x128x2x8 : Shape := ⟨4, ![3584, 128, 2, 8]⟩
abbrev S3584x128x8 : Shape := ⟨3, ![3584, 128, 8]⟩
abbrev S3584x1024 : Shape := ⟨2, ![3584, 1024]⟩
abbrev S5x384x3584 : Shape := ⟨3, ![5, 384, 3584]⟩
abbrev S1x1x3584 : Shape := ⟨3, ![1, 1, 3584]⟩

abbrev nBuf : Space → Nat
  | .hbm => 36
  | .vmem => 2
  | .smem => 0
  | _ => 0

abbrev bufTy : (tb : Table) → Fin (tcTables nBuf tb) → BufTy
  | .hbm, ⟨0, _⟩ => ⟨S5x384x1024, .bf16⟩
  | .hbm, ⟨1, _⟩ => ⟨S3584x128x2, .i8⟩
  | .hbm, ⟨2, _⟩ => ⟨S2x256x8, .i8⟩
  | .hbm, ⟨3, _⟩ => ⟨S3584, .f32⟩
  | .hbm, ⟨4, _⟩ => ⟨S2x256x8, .fp8e4m3⟩
  | .hbm, ⟨5, _⟩ => ⟨S2x256x8, .f32⟩
  | .hbm, ⟨6, _⟩ => ⟨S2, .i32⟩
  | .hbm, ⟨7, _⟩ => ⟨S3584x128x2, .i32⟩
  | .hbm, ⟨8, _⟩ => ⟨S_, .i32⟩
  | .hbm, ⟨9, _⟩ => ⟨S2, .i32⟩
  | .hbm, ⟨10, _⟩ => ⟨S2, .i1⟩
  | .hbm, ⟨11, _⟩ => ⟨S_, .i32⟩
  | .hbm, ⟨12, _⟩ => ⟨S2, .i32⟩
  | .hbm, ⟨13, _⟩ => ⟨S2, .i32⟩
  | .hbm, ⟨14, _⟩ => ⟨S2, .i32⟩
  | .hbm, ⟨15, _⟩ => ⟨S_, .i32⟩
  | .hbm, ⟨16, _⟩ => ⟨S3584x128x2, .i32⟩
  | .hbm, ⟨17, _⟩ => ⟨S3584x128x2, .i1⟩
  | .hbm, ⟨18, _⟩ => ⟨S_, .i32⟩
  | .hbm, ⟨19, _⟩ => ⟨S3584x128x2, .i32⟩
  | .hbm, ⟨20, _⟩ => ⟨S3584x128x2, .i32⟩
  | .hbm, ⟨21, _⟩ => ⟨S3584x128x2, .i32⟩
  | .hbm, ⟨22, _⟩ => ⟨S3584x128x2, .i32⟩
  | .hbm, ⟨23, _⟩ => ⟨S3584x128x2x1, .i32⟩
  | .hbm, ⟨24, _⟩ => ⟨S3584x128x2x1, .i32⟩
  | .hbm, ⟨25, _⟩ => ⟨S3584x128x2x2, .i32⟩
  | .hbm, ⟨26, _⟩ => ⟨S3584x128x2x8, .f32⟩
  | .hbm, ⟨27, _⟩ => ⟨S_, .f32⟩
  | .hbm, ⟨28, _⟩ => ⟨S3584x128x8, .f32⟩
  | .hbm, ⟨29, _⟩ => ⟨S3584x128x8, .bf16⟩
  | .hbm, ⟨30, _⟩ => ⟨S3584x1024, .bf16⟩
  | .hbm, ⟨31, _⟩ => ⟨S5x384x3584, .f32⟩
  | .hbm, ⟨32, _⟩ => ⟨S1x1x3584, .f32⟩
  | .hbm, ⟨33, _⟩ => ⟨S5x384x3584, .f32⟩
  | .hbm, ⟨34, _⟩ => ⟨S5x384x3584, .f32⟩
  | .hbm, ⟨35, _⟩ => ⟨S5x384x3584, .bf16⟩
  | .local _ .vmem, ⟨0, _⟩ => ⟨S2x256x8, .fp8e4m3⟩
  | .local _ .vmem, ⟨1, _⟩ => ⟨S2x256x8, .f32⟩
  | _, _ => ⟨S5x384x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x256x8 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Decode.lean ====
/-
  What one grid point's stores into its scratch are, cut the same way: the kernel's body is unrolled, so the run names the
  same computation sixteen times (the codes packed four to a word) and sixty-four times (a 32 × 128 tile of the weight decoded
  from packed codes and the two tables). Here each is ONE function of the step, and the run's lists of stores are lists of it.
-/
module

public import proofs.«01_k».proof.Proof.Gen.KernelIdeal.Frame
public import Idealize.ShloMosaic.PureOps.Ideal

@[expose] public section

noncomputable section

namespace Cert.KernelIdeal.Hand

open Cert.KernelIdeal Cert.KernelIdeal.Gen Idealize.ShloMosaic Idealize.ShloMosaic.TcCoe Idealize.SL.Sem

variable {F : FTy → Type} [FloatOps F]

/-! ## The tile decoded from a row of packed codes -/

/-- The low seven bits of the byte at bit `sh` of each word: the position within a table's half. -/
def slot (p : IVec S8x128 32) (sh : Nat) : IVec S8x128 32 :=
  andi (shrui p (broadcast S8x128 (BitVec.ofNat 32 sh))) (broadcast S8x128 127#32)

/-- One half of a table looked up at such positions, as the lookup prints (a negative position would be wrapped). -/
def look (t i : IVec S8x128 32) : IVec S8x128 32 :=
  dynamicGather 1 t (shapeCast S8x128 (shapeCast S8x128x1
    (select (cmpi .slt i (broadcast S8x128 0#32)) (addi i (broadcast S8x128 128#32)) i)
    shapeCasts_S8x128_S8x128x1) shapeCasts_S8x128x1_S8x128)

/-- The words a table holds at the codes in byte `sh / 8` of each word: the high half where the byte's top bit (brought to
    the sign by the shift `up`) is set, the low half elsewhere. -/
def words (lo hi p : IVec S8x128 32) (up sh : Nat) : IVec S8x128 32 :=
  select (cmpi .slt (shli p (broadcast S8x128 (BitVec.ofNat 32 up))) (broadcast S8x128 0#32))
    (look hi (slot p sh)) (look lo (slot p sh))

/-- Those words' bytes, read as the floats they encode. -/
def plane (lo hi p : IVec S8x128 32) (up sh : Nat) : FVec F S32x128 .bf16 :=
  extf .bf16 (bitcastToFloat .fp8e4m3 (bitcast S32x128 8 (words lo hi p up sh) bitcasts_S8x128_w32_S32x128_w8)) bitsLt_fp8e4m3_bf16

/-- One decoded tile: the first table at byte `h` plus the second at byte `2 + h`. -/
def tile (lo0 hi0 lo1 hi1 p : IVec S8x128 32) (h : Nat) : FVec F S32x128 .bf16 :=
  shapeCast S32x128 (addf (plane lo0 hi0 p (24 - 8 * h) (8 * h)) (plane lo1 hi1 p (8 - 8 * h) (16 + 8 * h))) shapeCasts_S32x128_S32x128

section Run

variable (c : Dev nD) (arg2 : Memref sig .tc .vmem S2x256x128 .i8) (harg2 : arg2.IsWhole)
  (arg3 : Memref sig .tc .vmem S2x8x256 .i8) (harg3 : arg3.IsWhole) (arg6 : Memref sig .tc .vmem S128x128 .i32)
  (arg7 : Memref sig .tc .vmem S256x128 .i32) (x1 : Vec F S2x256x128 .i8) (x2 : Vec F S2x8x256 .i8)

theorem tile_inb {r h : Nat} (hr : r < 32) (hh : h < 2) : ∀ a : Fin S1024x256.rank, (![32 * r, 128 * h] : Fin 2 → Nat) a + S32x128.size a ≤ S1024x256.size a := fun a => by
  match a with
  | ⟨0, _⟩ => show 32 * r + 32 ≤ 1024; omega
  | ⟨1, _⟩ => show 128 * h + 128 ≤ 256; omega

theorem rows_inb {r : Nat} (hr : r < 32) : ∀ a : Fin S256x128.rank, (![8 * r, 0] : Fin 2 → Nat) a + S8x128.size a ≤ S256x128.size a := fun a => by
  match a with
  | ⟨0, _⟩ => show 8 * r + 8 ≤ 256; omega
  | ⟨1, _⟩ => show 0 + 128 ≤ 128; omega

/-- Rows `8r … 8r+7` of the packed codes, as the run reads them back. -/
def rowsAt (r : Nat) (hr : r < 32) : IVec S8x128 32 :=
  arg7.view.readCov (kernelRun0_A.sl.HS1_2 c arg2 harg2 arg6 x1) (Rect.unit (s := S256x128) ![8 * r, 0] S8x128.size (rows_inb hr)).toLoadRect

/-- The store of tile `(r, h)` into the weight. -/
def tileStore (r h : Nat) (hr : r < 32) (hh : h < 2) : View.Piece (Elt F) S1024x256 .bf16 :=
  ⟨Rect.unit (s := S1024x256) ![32 * r, 128 * h] S32x128.size (tile_inb hr hh),
    tile (kernelRun0_A.sl.v476 c arg3 harg3 x2) (kernelRun0_A.sl.v477 c arg3 harg3 x2) (kernelRun0_A.sl.v482 c arg3 harg3 x2)
      (kernelRun0_A.sl.v483 c arg3 harg3 x2) (rowsAt c arg2 harg2 arg6 arg7 x1 r hr) h⟩

/-- The stores of the first `n` rows of tiles, the last first. -/
def tileStores : (n : Nat) → n ≤ 32 → List (View.Piece (Elt F) S1024x256 .bf16)
  | 0, _ => []
  | n + 1, hn => tileStore c arg2 harg2 arg3 harg3 arg6 arg7 x1 x2 n 1 hn (by decide)
      :: tileStore c arg2 harg2 arg3 harg3 arg6 arg7 x1 x2 n 0 hn (by decide) :: tileStores n (Nat.le_of_succ_le hn)

theorem HS2_eq : kernelRun0_A.sl.HS2_64 c arg2 harg2 arg3 harg3 arg6 arg7 x1 x2
    = tileStores c arg2 harg2 arg3 harg3 arg6 arg7 x1 x2 32 (Nat.le_refl 32) := by
  rfl

end Run

/-! ## The codes packed four to a word -/

/-- Byte `i` of each word, alone (the body leaves byte zero unshifted). -/
def byteOf (a : IVec S8x128 32) : Nat → IVec S8x128 32
  | 0 => andi a (broadcast S8x128 255#32)
  | i + 1 => andi (shrui a (broadcast S8x128 (BitVec.ofNat 32 (8 * (i + 1))))) (broadcast S8x128 255#32)

/-- Byte `i` of four vectors of words, joined into one word each. -/
def pack (a0 a1 a2 a3 : IVec S8x128 32) (i : Nat) : IVec S8x128 32 :=
  shapeCast S8x128 (ori (ori (ori (byteOf a0 i) (shli (byteOf a1 i) (broadcast S8x128 8#32)))
    (shli (byteOf a2 i) (broadcast S8x128 16#32))) (shli (byteOf a3 i) (broadcast S8x128 24#32))) shapeCasts_S8x128_S8x128

section Pack

variable (c : Dev nD) (arg2 : Memref sig .tc .vmem S2x256x128 .i8) (harg2 : arg2.IsWhole)
  (arg6 : Memref sig .tc .vmem S128x128 .i32) (x1 : Vec F S2x256x128 .i8)

theorem codes_inb {q h r : Nat} (hq : q < 2) (hh : h < 2) (hr : r < 4) : ∀ a : Fin S2x256x128.rank,
    (![q, 128 * h + 32 * r, 0] : Fin 3 → Nat) a + S1x32x128.size a ≤ S2x256x128.size a := fun a => by
  match a with
  | ⟨0, _⟩ => show q + 1 ≤ 2; omega
  | ⟨1, _⟩ => show 128 * h + 32 * r + 32 ≤ 256; omega
  | ⟨2, _⟩ => show 0 + 128 ≤ 128; omega

/-- Thirty-two rows of one code plane, read as eight rows of words. -/
def codeWords (q h r : Nat) (hq : q < 2) (hh : h < 2) (hr : r < 4) : IVec S8x128 32 :=
  bitcast S8x128 32 (shapeCast S32x128 (View.readAt (Elt F) arg2.view
    (Rect.unit (s := S2x256x128) ![q, 128 * h + 32 * r, 0] S1x32x128.size (codes_inb hq hh hr)).toLoadRect (harg2.unread x1))
    shapeCasts_S1x32x128_S32x128) bitcasts_S32x128_w8_S8x128_w32

theorem strip_inb {r i : Nat} (hr : r < 4) (hi : i < 4) : ∀ a : Fin S128x128.rank, S8x128.size a = 0 ∨
    (![32 * r + i, 0] : Fin 2 → Nat) a + (![4, 1] : Fin 2 → Nat) a * (S8x128.size a - 1) < S128x128.size a := fun a => by
  match a with
  | ⟨0, _⟩ => exact Or.inr (show 32 * r + i + 4 * (8 - 1) < 128 by omega)
  | ⟨1, _⟩ => exact Or.inr (show 0 + 1 * (128 - 1) < 128 by omega)

theorem strip_pos : ∀ a : Fin S128x128.rank, 0 < (![4, 1] : Fin 2 → Nat) a := by decide

/-- Every fourth row from row `32r + i`, eight of them. -/
def stripRect (r i : Nat) (hr : r < 4) (hi : i < 4) : Rect S128x128 where
  off := ![32 * r + i, 0]
  size := S8x128.size
  stride := ![4, 1]
  inb := strip_inb hr hi
  stride_pos := strip_pos

/-- The store of strip `(r, i)` of the packed codes. -/
def stripStore (r i : Nat) (hr : r < 4) (hi : i < 4) : View.Piece (Elt F) S128x128 .i32 :=
  ⟨stripRect r i hr hi, pack (codeWords arg2 harg2 x1 0 0 r (by decide) (by decide) hr) (codeWords arg2 harg2 x1 0 1 r (by decide) (by decide) hr)
    (codeWords arg2 harg2 x1 1 0 r (by decide) (by decide) hr) (codeWords arg2 harg2 x1 1 1 r (by decide) (by decide) hr) i⟩

/-- The stores of the first `n` groups of strips, the last first. -/
def stripStores : (n : Nat) → n ≤ 4 → List (View.Piece (Elt F) S128x128 .i32)
  | 0, _ => []
  | n + 1, hn => stripStore arg2 harg2 x1 n 3 hn (by decide) :: stripStore arg2 harg2 x1 n 2 hn (by decide)
      :: stripStore arg2 harg2 x1 n 1 hn (by decide) :: stripStore arg2 harg2 x1 n 0 hn (by decide) :: stripStores n (Nat.le_of_succ_le hn)

theorem HS0_eq : kernelRun0_A.sl.HS0_16 c arg2 harg2 x1 = stripStores arg2 harg2 x1 4 (Nat.le_refl 4) := by
  rfl

theorem fan_inb {i : Nat} (hi : i < 2) : ∀ a : Fin S256x128.rank, S128x128.size a = 0 ∨
    (![i, 0] : Fin 2 → Nat) a + (![2, 1] : Fin 2 → Nat) a * (S128x128.size a - 1) < S256x128.size a := fun a => by
  match a with
  | ⟨0, _⟩ => exact Or.inr (show i + 2 * (128 - 1) < 256 by omega)
  | ⟨1, _⟩ => exact Or.inr (show 0 + 1 * (128 - 1) < 128 by omega)

/-- Every second row from row `i`, all 128 of them. -/
def fanRect (i : Nat) (hi : i < 2) : Rect S256x128 where
  off := ![i, 0]
  size := S128x128.size
  stride := ![2, 1]
  inb := fan_inb hi
  stride_pos := by decide

/-- The packed codes turned on their side. -/
def turned : IVec S128x128 32 :=
  shapeCast S128x128 (transpose S128x128 [1, 0] (arg6.view.readCov (kernelRun0_A.sl.HS0_16 c arg2 harg2 x1)
    (Rect.unit (s := S128x128) ![0, 0] S128x128.size inb_S128x128_S128x128_0_0).toLoadRect) transposes_S128x128_p1_0_S128x128) shapeCasts_S128x128_S128x128

theorem HS1_eq : kernelRun0_A.sl.HS1_2 c arg2 harg2 arg6 x1
    = [⟨fanRect 1 (by decide), turned c arg2 harg2 arg6 x1⟩, ⟨fanRect 0 (by decide), turned c arg2 harg2 arg6 x1⟩] := by
  rfl

end Pack

end Cert.KernelIdeal.Hand
-- ==== Proof.Words.lean ====
/-
  Four bytes in a word. A word that joins four bytes gives each back by a shift and a mask, its low seven bits by another mask,
  and its top bit as the word's sign once shifted there; thirty-two rows of bytes read as eight rows of words join four bytes in
  each word, and read back as bytes they are the bytes again.
-/
module

public import Idealize.ShloMosaic.Lib.BitcastFour
public import Idealize.ShloMosaic.Lib.Pipeline.Value

@[expose] public section

noncomputable section

namespace Cert.KernelIdeal.Hand

open Idealize.ShloMosaic ValueIdx

/-- Four bytes joined into a word, byte zero lowest. -/
def join (b : Fin 4 → BitVec 8) : BitVec 32 :=
  (b 0).setWidth 32 ||| ((b 1).setWidth 32 <<< 8) ||| ((b 2).setWidth 32 <<< 16) ||| ((b 3).setWidth 32 <<< 24)

theorem join_bit (b : Fin 4 → BitVec 8) (q : Nat) (hq : q < 32) :
    (join b).getLsbD q = (b ⟨q / 8, by omega⟩).getLsbD (q % 8) := four_bytes_getLsbD b q hq

/-- Bit `8m + q` of the word is bit `q` of byte `m`. -/
theorem join_bit_byte (b : Fin 4 → BitVec 8) (m : Fin 4) (q : Nat) (hq : q < 8) :
    (join b).getLsbD (8 * m.val + q) = (b m).getLsbD q := by
  rw [join_bit b _ (by omega)]
  have e : (⟨(8 * m.val + q) / 8, by omega⟩ : Fin 4) = m := Fin.ext (show (8 * m.val + q) / 8 = m.val by omega)
  rw [e, show (8 * m.val + q) % 8 = q by omega]

/-- A shift right by less than the width. -/
theorem shrui_lt (x : BitVec 32) (n : Nat) (hn : n < 32) : IntOp.shrui .vector x (BitVec.ofNat 32 n) = x >>> n := by
  have e : (BitVec.ofNat 32 n).toNat = n := by rw [BitVec.toNat_ofNat]; omega
  unfold IntOp.shrui
  rw [if_pos (by omega), BitVec.ushiftRight_eq', e]

/-- A shift left by less than the width. -/
theorem shli_lt (x : BitVec 32) (n : Nat) (hn : n < 32) : IntOp.shli .vector x (BitVec.ofNat 32 n) = x <<< n := by
  have e : (BitVec.ofNat 32 n).toNat = n := by rw [BitVec.toNat_ofNat]; omega
  unfold IntOp.shli
  rw [if_pos (by omega), BitVec.shiftLeft_eq', e]

/-- Byte `m`, shifted down and masked, is the byte widened. -/
theorem join_mask (b : Fin 4 → BitVec 8) (m : Fin 4) : (join b) >>> (8 * m.val) &&& 255#32 = (b m).setWidth 32 := by
  apply BitVec.eq_of_getLsbD_eq
  intro q hq
  have h255 : (255#32 : BitVec 32).getLsbD q = decide (q < 8) := by interval_cases q <;> rfl
  rw [BitVec.getLsbD_and, BitVec.getLsbD_ushiftRight, BitVec.getLsbD_setWidth, h255]
  by_cases h : q < 8
  · rw [join_bit_byte b m q h]; simp [h, hq]
  · simp [h, BitVec.getLsbD_of_ge (b m) q (by omega)]

/-- Its low seven bits are the byte modulo 128. -/
theorem join_slot (b : Fin 4 → BitVec 8) (m : Fin 4) : ((join b) >>> (8 * m.val) &&& 127#32).toNat = (b m).toNat % 128 := by
  have e : (join b) >>> (8 * m.val) &&& 127#32 = ((join b) >>> (8 * m.val) &&& 255#32) &&& 127#32 := by
    rw [BitVec.and_assoc]; rfl
  rw [e, join_mask, BitVec.toNat_and, BitVec.toNat_setWidth]
  have hb : (b m).toNat < 256 := (b m).isLt
  rw [Nat.mod_eq_of_lt (by omega : (b m).toNat < 2 ^ 32)]
  exact Nat.and_two_pow_sub_one_eq_mod (b m).toNat 7

/-- Its top bit, shifted to the sign, says whether the byte is at least 128. -/
theorem join_sign (b : Fin 4 → BitVec 8) (m : Fin 4) (up : Nat) (hup : up + 8 * m.val = 24) :
    BitVec.slt ((join b) <<< up) 0#32 = decide (128 ≤ (b m).toNat) := by
  rw [BitVec.slt_zero_eq_msb, BitVec.msb_eq_getLsbD_last, BitVec.getLsbD_shiftLeft]
  have h1 : (32 - 1 - up) = 8 * m.val + 7 := by omega
  rw [h1, join_bit_byte b m 7 (by omega)]
  have h2 : (b m).getLsbD 7 = (b m).msb := by rw [BitVec.msb_eq_getLsbD_last]
  rw [h2, BitVec.msb_eq_decide]
  have h3 : ¬ (32 - 1 < up) := by omega
  simp [h3]

/-- Rows of bytes read as rows of words: each word joins the four bytes below it. -/
theorem bitcast_join {R r n : Nat} (x : (⟨2, ![R, n]⟩ : Shape).Idx → BitVec 8)
    (h : (⟨2, ![R, n]⟩ : Shape).Bitcasts 8 ⟨2, ![r, n]⟩ 32) (s : Fin r) (l : Fin n) (k : Fin 4 → Fin R) (hk : ∀ b, (k b).val = 4 * s.val + b.val) :
    bitcast ⟨2, ![r, n]⟩ 32 x h (ix2 s l) = join fun b => x (ix2 (k b) l) := by
  apply BitVec.eq_of_getLsbD_eq
  intro q hq
  rw [join_bit _ q hq]
  exact bitcast_8_32_getLsbD_ix2 x h s l q hq _ (hk _)

/-- Rows of words read as rows of bytes: row `k` is byte `k mod 4` of the word in row `k / 4`. -/
theorem bitcast_split {R r n : Nat} (x : (⟨2, ![r, n]⟩ : Shape).Idx → BitVec 32)
    (h : (⟨2, ![r, n]⟩ : Shape).Bitcasts 32 ⟨2, ![R, n]⟩ 8) (k : Fin R) (l : Fin n) (s : Fin r) (m : Fin 4)
    (hk : k.val = 4 * s.val + m.val) (b : Fin 4 → BitVec 8) (hx : x (ix2 s l) = join b) :
    bitcast ⟨2, ![R, n]⟩ 8 x h (ix2 k l) = b m := by
  apply BitVec.eq_of_getLsbD_eq
  intro q hq
  rw [bitcast_getLsbD x h _ q hq (by decide), ← join_bit_byte b m q hq, ← hx]
  congr 2
  · funext c
    match c with
    | ⟨0, _⟩ => exact Fin.ext ((h.srcIdx_row _ _ _ ⟨0, Nat.zero_lt_two⟩ rfl).trans (show (k.val * 8 + q) / 32 = s.val by omega))
    | ⟨1, _⟩ => exact Fin.ext (h.srcIdx_other _ _ _ ⟨1, Nat.one_lt_two⟩ (by show ¬ 1 + 2 = 2; omega))
  · show (k.val * 8 + q) % 32 = _
    omega

end Cert.KernelIdeal.Hand
-- ==== Proof.Tile.lean ====
/-
  One decoded tile, element by element. Where the packed word at (row k / 4, lane l) joins four code bytes, and the two halves of
  each table hold at (row, position) the word joining four consecutive entries of a code's vector, the tile's element (k, l) is
  the sum over the two tables of entry `k mod 8` of the vector its code byte names.
-/
module

public import proofs.«01_k».proof.Proof.Decode
public import proofs.«01_k».proof.Proof.Words
public import Idealize.ShloMosaic.Lib.ValueLayout
public import Idealize.ShloMosaic.Lib.WholeRead

@[expose] public section

noncomputable section

namespace Cert.KernelIdeal.Hand

open Cert.KernelIdeal Cert.KernelIdeal.Gen Idealize.ShloMosaic Idealize.ShloMosaic.TcCoe Idealize.SL.Sem ValueIdx

variable {F : FTy → Type} [FloatOps F]

/-! ## Packing -/

theorem byteOf_apply (a : IVec S8x128 32) (i : Fin 4) (s : Fin 8) (l : Fin 128) (b : Fin 4 → BitVec 8) (h : a (ix2 s l) = join b) :
    byteOf a i.val (ix2 s l) = (b i).setWidth 32 := by
  rw [← join_mask b i, ← h]
  match i with
  | ⟨0, _⟩ => rfl
  | ⟨n + 1, hn⟩ =>
    show IntOp.andi (IntOp.shrui .vector (a (ix2 s l)) (BitVec.ofNat 32 (8 * (n + 1)))) 255#32 = _
    rw [shrui_lt _ _ (by omega)]
    rfl

/-- Strip `i` of a packing joins byte `i` of the four words. -/
theorem pack_apply (a : Fin 4 → IVec S8x128 32) (i : Fin 4) (s : Fin 8) (l : Fin 128) (b : Fin 4 → Fin 4 → BitVec 8)
    (h : ∀ m, a m (ix2 s l) = join (b m)) : pack (a 0) (a 1) (a 2) (a 3) i.val (ix2 s l) = join fun m => b m i := by
  unfold pack
  rw [shapeCast_self]
  show IntOp.ori (IntOp.ori (IntOp.ori (byteOf (a 0) i.val (ix2 s l)) (IntOp.shli .vector (byteOf (a 1) i.val (ix2 s l)) 8#32))
    (IntOp.shli .vector (byteOf (a 2) i.val (ix2 s l)) 16#32)) (IntOp.shli .vector (byteOf (a 3) i.val (ix2 s l)) 24#32) = _
  rw [byteOf_apply _ i s l _ (h 0), byteOf_apply _ i s l _ (h 1), byteOf_apply _ i s l _ (h 2), byteOf_apply _ i s l _ (h 3),
    shli_lt _ 8 (by decide), shli_lt _ 16 (by decide), shli_lt _ 24 (by decide)]
  rfl

/-! ## Looking a code up -/

theorem slot_apply (p : IVec S8x128 32) (s : Fin 8) (l : Fin 128) (b : Fin 4 → BitVec 8) (h : p (ix2 s l) = join b) (m : Fin 4)
    (sh : Nat) (hsh : sh = 8 * m.val) : (slot p sh (ix2 s l)).toNat = (b m).toNat % 128 := by
  subst hsh
  rw [← join_slot b m, ← h]
  show (IntOp.andi (IntOp.shrui .vector (p (ix2 s l)) (BitVec.ofNat 32 (8 * m.val))) 127#32).toNat = _
  rw [shrui_lt _ _ (by omega)]
  rfl

/-- A position below 128 is not wrapped. -/
theorem look_apply (t i : IVec S8x128 32) (s : Fin 8) (l k : Fin 128) (hk : (i (ix2 s l)).toNat = k.val) :
    look t i (ix2 s l) = t (ix2 s k) := by
  have hneg : BitVec.slt (i (ix2 s l)) 0#32 = false := by
    rw [BitVec.slt_zero_eq_msb, BitVec.msb_eq_decide, hk]
    exact decide_eq_false (by have := k.isLt; omega)
  have hsel : (select (cmpi .slt i (broadcast S8x128 0#32)) (addi i (broadcast S8x128 128#32)) i) (ix2 s l) = i (ix2 s l) := by
    show Scalar.select (BitVec.ofBool (BitVec.slt (i (ix2 s l)) 0#32)) _ _ = _
    rw [hneg]
    rfl
  unfold look dynamicGather
  rw [shapeCast_shapeCast]
  refine congrArg t (funext fun c => ?_)
  match c with
  | ⟨0, _⟩ => rfl
  | ⟨1, _⟩ =>
    refine Fin.ext ?_
    show (select (cmpi .slt i (broadcast S8x128 0#32)) (addi i (broadcast S8x128 128#32)) i (ix2 s l)).toNat % 128 = k.val
    rw [hsel, hk]
    exact Nat.mod_eq_of_lt k.isLt

/-- The word looked up is the table's at the byte. -/
theorem words_apply (T : Fin 256 → BitVec 32) (lo hi p : IVec S8x128 32) (s : Fin 8) (l : Fin 128) (b : Fin 4 → BitVec 8)
    (hlo : ∀ k : Fin 128, lo (ix2 s k) = T ⟨k.val, by omega⟩) (hhi : ∀ k : Fin 128, hi (ix2 s k) = T ⟨128 + k.val, by omega⟩)
    (hp : p (ix2 s l) = join b) (m : Fin 4) (up sh : Nat) (hsh : sh = 8 * m.val) (hup : up + 8 * m.val = 24) :
    words lo hi p up sh (ix2 s l) = T ⟨(b m).toNat, (b m).isLt⟩ := by
  have hb : (b m).toNat < 256 := (b m).isLt
  have hs := slot_apply p s l b hp m sh hsh
  unfold words
  show Scalar.select (BitVec.ofBool (BitVec.slt (IntOp.shli .vector (p (ix2 s l)) (BitVec.ofNat 32 up)) 0#32)) _ _ = _
  rw [shli_lt _ _ (by omega), hp, join_sign b m up hup,
    look_apply hi _ s l ⟨(b m).toNat % 128, by omega⟩ hs, look_apply lo _ s l ⟨(b m).toNat % 128, by omega⟩ hs, hlo, hhi]
  by_cases h : 128 ≤ (b m).toNat
  · rw [decide_eq_true h]
    show T _ = _
    exact congrArg T (Fin.ext (show 128 + (b m).toNat % 128 = (b m).toNat by omega))
  · rw [decide_eq_false h]
    show T _ = _
    exact congrArg T (Fin.ext (show (b m).toNat % 128 = (b m).toNat by omega))

/-! ## The tile -/

/-- A byte read as the float it encodes. -/
def decode (w : BitVec 8) : F .bf16 := FloatOps.extf .bf16 bitsLt_fp8e4m3_bf16 (FloatOps.ofBits .fp8e4m3 w)

theorem plane_apply (T : Fin 256 → Fin 8 → BitVec 8) (lo hi p : IVec S8x128 32) (k : Fin 32) (l : Fin 128) (s : Fin 8) (hs : s.val = k.val / 4)
    (b : Fin 4 → BitVec 8) (e : Fin 4 → Fin 8) (he : ∀ q, (e q).val = 4 * (s.val % 2) + q.val)
    (hlo : ∀ j : Fin 128, lo (ix2 s j) = join fun q => T ⟨j.val, by omega⟩ (e q))
    (hhi : ∀ j : Fin 128, hi (ix2 s j) = join fun q => T ⟨128 + j.val, by omega⟩ (e q))
    (hp : p (ix2 s l) = join b) (m : Fin 4) (up sh : Nat) (hsh : sh = 8 * m.val) (hup : up + 8 * m.val = 24) :
    (plane lo hi p up sh : FVec F S32x128 .bf16) (ix2 k l) = decode (T ⟨(b m).toNat, (b m).isLt⟩ ⟨k.val % 8, by omega⟩) := by
  have hw := words_apply (fun j => join fun q => T j (e q)) lo hi p s l b hlo hhi hp m up sh hsh hup
  show FloatOps.extf .bf16 bitsLt_fp8e4m3_bf16 (FloatOps.ofBits .fp8e4m3
    (bitcast S32x128 8 (words lo hi p up sh) bitcasts_S8x128_w32_S32x128_w8 (ix2 k l))) = _
  rw [bitcast_split _ _ k l s ⟨k.val % 4, by omega⟩ (show k.val = 4 * s.val + k.val % 4 by omega) _ hw]
  unfold decode
  congr 3
  exact Fin.ext (by rw [he]; show 4 * (s.val % 2) + k.val % 4 = k.val % 8; omega)

/-- The tile's element: the two tables' entries, added. -/
theorem tile_apply (T : Fin 2 → Fin 256 → Fin 8 → BitVec 8) (lo0 hi0 lo1 hi1 p : IVec S8x128 32) (k : Fin 32) (l : Fin 128) (s : Fin 8)
    (hs : s.val = k.val / 4) (b : Fin 4 → BitVec 8) (e : Fin 4 → Fin 8) (he : ∀ q, (e q).val = 4 * (s.val % 2) + q.val)
    (hlo0 : ∀ j : Fin 128, lo0 (ix2 s j) = join fun q => T 0 ⟨j.val, by omega⟩ (e q))
    (hhi0 : ∀ j : Fin 128, hi0 (ix2 s j) = join fun q => T 0 ⟨128 + j.val, by omega⟩ (e q))
    (hlo1 : ∀ j : Fin 128, lo1 (ix2 s j) = join fun q => T 1 ⟨j.val, by omega⟩ (e q))
    (hhi1 : ∀ j : Fin 128, hi1 (ix2 s j) = join fun q => T 1 ⟨128 + j.val, by omega⟩ (e q))
    (hp : p (ix2 s l) = join b) (h : Fin 2) (m0 m1 : Fin 4) (hm0 : m0.val = h.val) (hm1 : m1.val = 2 + h.val) :
    (tile lo0 hi0 lo1 hi1 p h.val : FVec F S32x128 .bf16) (ix2 k l)
      = FloatOps.addf (decode (T 0 ⟨(b m0).toNat, (b m0).isLt⟩ ⟨k.val % 8, by omega⟩)) (decode (T 1 ⟨(b m1).toNat, (b m1).isLt⟩ ⟨k.val % 8, by omega⟩)) := by
  unfold tile
  rw [shapeCast_self]
  show FloatOps.addf (plane lo0 hi0 p (24 - 8 * h.val) (8 * h.val) (ix2 k l)) (plane lo1 hi1 p (8 - 8 * h.val) (16 + 8 * h.val) (ix2 k l)) = _
  rw [plane_apply (T 0) lo0 hi0 p k l s hs b e he hlo0 hhi0 hp m0 _ _ (by omega) (by omega),
    plane_apply (T 1) lo1 hi1 p k l s hs b e he hlo1 hhi1 hp m1 _ _ (by omega) (by omega)]

end Cert.KernelIdeal.Hand
-- ==== Proof.Weight.lean ====
/-
  The weight one grid point decodes, element by element. The packed codes hold at (row, lane) the four code bytes of that output
  column and group; turned on their side and stored at every second row twice over, row `8r + s` holds group `(8r + s) / 2`; the
  sixty-four tiles then fill the 1024 × 256 weight with, at (k, n), the sum over the two codebooks of entry `k mod 8` of the
  vector named by the code of column `n`, group `k / 8`.
-/
module

public import proofs.«01_k».proof.Proof.Tile

@[expose] public section

noncomputable section

namespace Cert.KernelIdeal.Hand

open Cert.KernelIdeal Cert.KernelIdeal.Gen Idealize.ShloMosaic Idealize.ShloMosaic.TcCoe Idealize.SL.Sem ValueIdx

variable {F : FTy → Type} [FloatOps F]

variable (c : Dev nD) (arg2 : Memref sig .tc .vmem S2x256x128 .i8) (harg2 : arg2.IsWhole)
  (arg3 : Memref sig .tc .vmem S2x8x256 .i8) (harg3 : arg3.IsWhole) (arg6 : Memref sig .tc .vmem S128x128 .i32)
  (arg7 : Memref sig .tc .vmem S256x128 .i32) (arg8 : Memref sig .tc .vmem S1024x256 .bf16)
  (x1 : Vec F S2x256x128 .i8) (x2 : Vec F S2x8x256 .i8)

/-! ## The packed codes -/

/-- The code byte of codebook `q` at column `n` and group `g`. -/
def code (x1 : Vec F S2x256x128 .i8) (q : Fin 2) (n : Fin 256) (g : Fin 128) : BitVec 8 := x1 (ix3 q n g)

/-- Byte `m` of the packed word at column `n` of each half: codebook `m / 2`, half `m mod 2`. -/
def codes (x1 : Vec F S2x256x128 .i8) (n g : Fin 128) (m : Fin 4) : BitVec 8 :=
  code x1 ⟨m.val / 2, by omega⟩ ⟨128 * (m.val % 2) + n.val, by omega⟩ g

theorem codeWords_apply (q h r : Nat) (hq : q < 2) (hh : h < 2) (hr : r < 4) (s : Fin 8) (l : Fin 128) :
    codeWords arg2 harg2 x1 q h r hq hh hr (ix2 s l)
      = join fun i => code x1 ⟨q, hq⟩ ⟨128 * h + (32 * r + (4 * s.val + i.val)), by omega⟩ l := by
  unfold codeWords
  rw [bitcast_join _ _ s l (fun i => ⟨4 * s.val + i.val, by omega⟩) (fun _ => rfl)]
  refine congrArg join (funext fun i => ?_)
  rw [shapeCast_1ab_ab_apply, harg2.readAt_unread]
  unfold code
  refine congrArg x1 (funext fun a => Fin.ext ?_)
  match a with
  | ⟨0, _⟩ => show q + 1 * 0 = q; omega
  | ⟨1, _⟩ => show 128 * h + 32 * r + 1 * (4 * s.val + i.val) = 128 * h + (32 * r + (4 * s.val + i.val)); omega
  | ⟨2, _⟩ => show 0 + 1 * l.val = l.val; omega

/-- What the packed scratch holds. -/
def packed (x1 : Vec F S2x256x128 .i8) : Vec F S128x128 .i32 := fun y => join (codes x1 (y 0) (y 1))

theorem strip_agrees (r i : Nat) (hr : r < 4) (hi : i < 4) (x : S8x128.Idx) :
    (stripStore arg2 harg2 x1 r i hr hi).2 x = packed x1 ((stripStore arg2 harg2 x1 r i hr hi).1.emb x) := by
  obtain ⟨s, l, rfl⟩ : ∃ s l, x = ix2 s l := ⟨x 0, x 1, eq_ix2 x⟩
  show pack _ _ _ _ i (ix2 s l) = _
  refine (pack_apply (fun m => codeWords arg2 harg2 x1 (m.val / 2) (m.val % 2) r (by omega) (by omega) hr) ⟨i, hi⟩ s l _
    fun m => codeWords_apply arg2 harg2 x1 _ _ r _ _ hr s l).trans ?_
  refine congrArg join (funext fun m => ?_)
  unfold codes
  refine congr (congrArg _ (Fin.ext ?_)) (Fin.ext ?_)
  · show 128 * (m.val % 2) + (32 * r + (4 * s.val + i)) = 128 * (m.val % 2) + (32 * r + i + 4 * s.val); omega
  · show l.val = 0 + 1 * l.val; omega

theorem mem_stripStores : ∀ (n : Nat) (hn : n ≤ 4) (p : View.Piece (Elt F) S128x128 .i32), p ∈ stripStores arg2 harg2 x1 n hn →
    ∃ r i hr hi, p = stripStore arg2 harg2 x1 r i hr hi
  | 0, _, p, h => absurd h List.not_mem_nil
  | n + 1, hn, p, h => by
    unfold stripStores at h
    simp only [List.mem_cons] at h
    rcases h with h | h | h | h | h
    · exact ⟨n, 3, _, _, h⟩
    · exact ⟨n, 2, _, _, h⟩
    · exact ⟨n, 1, _, _, h⟩
    · exact ⟨n, 0, _, _, h⟩
    · exact mem_stripStores n _ p h

theorem stripStore_mem : ∀ (n : Nat) (hn : n ≤ 4) (r i : Nat) (hr : r < 4) (hi : i < 4), r < n →
    stripStore arg2 harg2 x1 r i hr hi ∈ stripStores arg2 harg2 x1 n hn
  | 0, _, _, _, _, _, h => absurd h (Nat.not_lt_zero _)
  | n + 1, hn, r, i, hr, hi, h => by
    unfold stripStores
    simp only [List.mem_cons]
    rcases Nat.lt_succ_iff_lt_or_eq.mp h with h | rfl
    · exact Or.inr (Or.inr (Or.inr (Or.inr (stripStore_mem n _ r i hr hi h))))
    · match i, hi with
      | 0, _ => exact Or.inr (Or.inr (Or.inr (Or.inl rfl)))
      | 1, _ => exact Or.inr (Or.inr (Or.inl rfl))
      | 2, _ => exact Or.inr (Or.inl rfl)
      | 3, _ => exact Or.inl rfl

/-- The sixteen strips fill the packed scratch. -/
theorem canon_strips : View.canon (kernelRun0_A.sl.HS0_16 c arg2 harg2 x1) = packed x1 := by
  rw [HS0_eq]
  funext y
  have hy0 : (y 0).val < 128 := (y 0).isLt
  have hy1 : (y 1).val < 128 := (y 1).isLt
  refine View.canon_apply_of_pieces (packed x1) _ (fun p hp x => ?_) y ⟨stripStore arg2 harg2 x1 ((y 0).val / 32) ((y 0).val % 4) (by omega) (by omega),
    stripStore_mem arg2 harg2 x1 4 _ _ _ _ _ (by omega), ?_⟩
  · obtain ⟨r, i, hr, hi, rfl⟩ := mem_stripStores arg2 harg2 x1 4 _ p hp
    exact strip_agrees arg2 harg2 x1 r i hr hi x
  · rw [LoadRect.mem_set]
    intro a
    match a with
    | ⟨0, _⟩ => exact ⟨(y 0).val % 32 / 4, show (y 0).val % 32 / 4 < 8 by omega,
        show (y 0).val = 32 * ((y 0).val / 32) + (y 0).val % 4 + 4 * ((y 0).val % 32 / 4) by omega⟩
    | ⟨1, _⟩ => exact ⟨(y 1).val, hy1, show (y 1).val = 0 + 1 * (y 1).val by omega⟩

/-! ## Turned on their side, each row twice -/

theorem turned_apply (g n : Fin 128) : turned c arg2 harg2 arg6 x1 (ix2 g n) = join (codes x1 n g) := by
  unfold turned
  rw [shapeCast_self, transpose_ix2_apply, View.readCov_eq_canon']
  show View.canon (kernelRun0_A.sl.HS0_16 c arg2 harg2 x1) _ = _
  rw [canon_strips]
  unfold packed
  refine congrArg join (congr (congrArg _ (Fin.ext ?_)) (Fin.ext ?_))
  · show 0 + 1 * n.val = n.val; omega
  · show 0 + 1 * g.val = g.val; omega

/-- What the turned scratch holds. -/
def fanned (x1 : Vec F S2x256x128 .i8) : Vec F S256x128 .i32 := fun y =>
  join (codes x1 (y 1) ⟨(y 0).val / 2, by have h : (y 0).val < 256 := (y 0).isLt; omega⟩)

theorem canon_fan : View.canon (kernelRun0_A.sl.HS1_2 c arg2 harg2 arg6 x1) = fanned x1 := by
  rw [HS1_eq]
  have agrees (i : Nat) (hi : i < 2) (x : S128x128.Idx) : turned c arg2 harg2 arg6 x1 x = fanned x1 ((fanRect i hi).emb x) := by
    obtain ⟨g, n, rfl⟩ : ∃ g n, x = ix2 g n := ⟨x 0, x 1, eq_ix2 x⟩
    rw [turned_apply]
    unfold fanned
    refine congrArg join (congr (congrArg _ (Fin.ext ?_)) (Fin.ext ?_))
    · show n.val = 0 + 1 * n.val; omega
    · show g.val = (i + 2 * g.val) / 2; omega
  funext y
  have hy0 : (y 0).val < 256 := (y 0).isLt
  have hy1 : (y 1).val < 128 := (y 1).isLt
  have mem (i : Nat) (hi : i < 2) (h : (y 0).val % 2 = i) : y ∈ (fanRect i hi).set := by
    rw [LoadRect.mem_set]
    intro a
    match a with
    | ⟨0, _⟩ => exact ⟨(y 0).val / 2, show (y 0).val / 2 < 128 by omega, show (y 0).val = i + 2 * ((y 0).val / 2) by omega⟩
    | ⟨1, _⟩ => exact ⟨(y 1).val, hy1, show (y 1).val = 0 + 1 * (y 1).val by omega⟩
  refine View.canon_apply_of_pieces (fanned x1) _ (fun p hp x => ?_) y ?_
  · simp only [List.mem_cons, List.not_mem_nil, or_false] at hp
    rcases hp with rfl | rfl
    · exact agrees 1 (by decide) x
    · exact agrees 0 (by decide) x
  · by_cases h : (y 0).val % 2 = 1
    · exact ⟨_, List.mem_cons_self, mem 1 (by decide) h⟩
    · exact ⟨_, List.mem_cons_of_mem _ List.mem_cons_self, mem 0 (by decide) (by omega)⟩

theorem rowsAt_apply (r : Nat) (hr : r < 32) (s : Fin 8) (l : Fin 128) :
    rowsAt c arg2 harg2 arg6 arg7 x1 r hr (ix2 s l) = join (codes x1 l ⟨(8 * r + s.val) / 2, by omega⟩) := by
  unfold rowsAt
  rw [View.readCov_eq_canon']
  show View.canon (kernelRun0_A.sl.HS1_2 c arg2 harg2 arg6 x1) _ = _
  rw [canon_fan]
  unfold fanned
  refine congrArg join (congr (congrArg _ (Fin.ext ?_)) (Fin.ext ?_))
  · show 0 + 1 * l.val = l.val; omega
  · show (8 * r + 1 * s.val) / 2 = (8 * r + s.val) / 2; omega

/-! ## The tables -/

theorem table_inb {q : Nat} (hq : q < 2) : ∀ a : Fin S2x8x256.rank, (![q, 0, 0] : Fin 3 → Nat) a + S1x8x256.size a ≤ S2x8x256.size a := fun a => by
  match a with
  | ⟨0, _⟩ => show q + 1 ≤ 2; omega
  | ⟨1, _⟩ => show 0 + 8 ≤ 8; omega
  | ⟨2, _⟩ => show 0 + 256 ≤ 256; omega

/-- Codebook `q` as words, its two rows four times over. -/
def tableWords (q : Nat) (hq : q < 2) : IVec S8x256 32 :=
  concatenate S8x256 0 (List.replicate 4 ⟨S2x256, bitcast S2x256 32 (shapeCast S8x256 (View.readAt (Elt F) arg3.view
    (Rect.unit (s := S2x8x256) ![q, 0, 0] S1x8x256.size (table_inb hq)).toLoadRect (harg3.unread x2)) shapeCasts_S1x8x256_S8x256)
    bitcasts_S8x256_w8_S2x256_w32⟩) concatenates_S2x256_S2x256_S2x256_S2x256_S8x256_d0

theorem tableWords_apply (q : Nat) (hq : q < 2) (s : Fin 8) (j : Fin 256) :
    tableWords arg3 harg3 x2 q hq (ix2 s j) = join fun i => x2 (ix3 (⟨q, hq⟩ : Fin 2) (⟨4 * (s.val % 2) + i.val, by omega⟩ : Fin 8) j) := by
  unfold tableWords
  refine (concatenate_replicate_apply (t := S8x256) (s₁ := S2x256) 0 4 _ _ rfl (ix2 s j) (ix2 (⟨s.val % 2, by omega⟩ : Fin 2) j) rfl
    (fun b hb => by match b, hb with | ⟨0, _⟩, hb => exact absurd rfl hb | ⟨1, _⟩, _ => rfl)).trans ?_
  rw [bitcast_join _ _ _ j (fun i => ⟨4 * (s.val % 2) + i.val, by omega⟩) (fun _ => rfl)]
  refine congrArg join (funext fun i => ?_)
  rw [shapeCast_1ab_ab_apply, harg3.readAt_unread]
  refine congrArg x2 (funext fun a => Fin.ext ?_)
  match a with
  | ⟨0, _⟩ => show q + 1 * 0 = q; omega
  | ⟨1, _⟩ => show 0 + 1 * (4 * (s.val % 2) + i.val) = 4 * (s.val % 2) + i.val; omega
  | ⟨2, _⟩ => show 0 + 1 * j.val = j.val; omega

theorem low0 : kernelRun0_A.sl.v476 c arg3 harg3 x2 = extractStridedSlice S8x128 ![0, 0] (tableWords arg3 harg3 x2 0 (by decide)) slices_S8x256_o0_0_S8x128 := rfl
theorem high0 : kernelRun0_A.sl.v477 c arg3 harg3 x2 = extractStridedSlice S8x128 ![0, 128] (tableWords arg3 harg3 x2 0 (by decide)) slices_S8x256_o0_128_S8x128 := rfl
theorem low1 : kernelRun0_A.sl.v482 c arg3 harg3 x2 = extractStridedSlice S8x128 ![0, 0] (tableWords arg3 harg3 x2 1 (by decide)) slices_S8x256_o0_0_S8x128 := rfl
theorem high1 : kernelRun0_A.sl.v483 c arg3 harg3 x2 = extractStridedSlice S8x128 ![0, 128] (tableWords arg3 harg3 x2 1 (by decide)) slices_S8x256_o0_128_S8x128 := rfl

/-! ## The weight -/

/-- Entry `d` of the vector of code `j` in codebook `q`. -/
def entry (x2 : Vec F S2x8x256 .i8) (q : Fin 2) (j : Fin 256) (d : Fin 8) : BitVec 8 := x2 (ix3 q d j)

/-- Element (k, n) of the weight from codebook `q`. -/
def part (x1 : Vec F S2x256x128 .i8) (x2 : Vec F S2x8x256 .i8) (q : Fin 2) (k : Fin 1024) (n : Fin 256) : F .bf16 :=
  decode (entry x2 q ⟨(code x1 q n ⟨k.val / 8, by omega⟩).toNat, (code x1 q n ⟨k.val / 8, by omega⟩).isLt⟩ ⟨k.val % 8, by omega⟩)

/-- The weight a grid point decodes from its block of codes and the codebooks. -/
def weight (x1 : Vec F S2x256x128 .i8) (x2 : Vec F S2x8x256 .i8) : Vec F S1024x256 .bf16 := fun y =>
  FloatOps.addf (part x1 x2 0 (y 0) (y 1)) (part x1 x2 1 (y 0) (y 1))

theorem part_eq (q : Fin 2) (m : Fin 4) (l g : Fin 128) (d : Fin 8) (k : Fin 1024) (n : Fin 256) (hq : q.val = m.val / 2)
    (hn : n.val = 128 * (m.val % 2) + l.val) (hg : k.val / 8 = g.val) (hd : k.val % 8 = d.val) :
    decode (F := F) (entry x2 q ⟨(codes x1 l g m).toNat, (codes x1 l g m).isLt⟩ d) = part x1 x2 q k n := by
  have hc : codes x1 l g m = code x1 q n ⟨k.val / 8, by omega⟩ := by
    unfold codes code
    refine congrArg x1 (funext fun a => Fin.ext ?_)
    match a with
    | ⟨0, _⟩ => exact hq.symm
    | ⟨1, _⟩ => exact hn.symm
    | ⟨2, _⟩ => exact hg.symm
  unfold part
  refine congrArg decode (congr (congrArg _ (Fin.ext (congrArg BitVec.toNat hc))) (Fin.ext hd.symm))

theorem tile_agrees (r h : Nat) (hr : r < 32) (hh : h < 2) (x : S32x128.Idx) :
    (tileStore c arg2 harg2 arg3 harg3 arg6 arg7 x1 x2 r h hr hh).2 x
      = weight x1 x2 ((tileStore c arg2 harg2 arg3 harg3 arg6 arg7 x1 x2 r h hr hh).1.emb x) := by
  obtain ⟨k, l, rfl⟩ : ∃ k l, x = ix2 k l := ⟨x 0, x 1, eq_ix2 x⟩
  have half (q : Nat) (hq : q < 2) (s : Fin 8) (o : Nat) (hs : S8x256.Slices ![0, o] S8x128) (j : Fin 128) (n : Fin 256) (hn : n.val = o + j.val) :
      extractStridedSlice S8x128 ![0, o] (tableWords arg3 harg3 x2 q hq) hs (ix2 s j)
        = join fun i => entry x2 ⟨q, hq⟩ n ⟨4 * (s.val % 2) + i.val, by omega⟩ :=
    (slice2_axis1_apply o _ hs s j n hn).trans (tableWords_apply arg3 harg3 x2 q hq s n)
  show tile _ _ _ _ _ h (ix2 k l) = _
  rw [low0, high0, low1, high1]
  refine (tile_apply (entry x2) _ _ _ _ _ k l ⟨k.val / 4, by omega⟩ rfl _ (fun i => ⟨4 * (k.val / 4 % 2) + i.val, by omega⟩) (fun _ => rfl)
    (fun j => half 0 (by decide) _ 0 _ j _ (Nat.zero_add _).symm) (fun j => half 0 (by decide) _ 128 _ j _ rfl)
    (fun j => half 1 (by decide) _ 0 _ j _ (Nat.zero_add _).symm) (fun j => half 1 (by decide) _ 128 _ j _ rfl)
    (rowsAt_apply c arg2 harg2 arg6 arg7 x1 r hr _ l) ⟨h, hh⟩ ⟨h, by omega⟩ ⟨2 + h, by omega⟩ rfl rfl).trans ?_
  unfold weight
  refine congr (congrArg _ (part_eq x1 x2 0 _ _ _ _ _ _ ?_ ?_ ?_ ?_)) (part_eq x1 x2 1 _ _ _ _ _ _ ?_ ?_ ?_ ?_)
  · show 0 = h / 2; omega
  · show 128 * h + 1 * l.val = 128 * (h % 2) + l.val; omega
  · show (32 * r + 1 * k.val) / 8 = (8 * r + k.val / 4) / 2; omega
  · show (32 * r + 1 * k.val) % 8 = k.val % 8; omega
  · show 1 = (2 + h) / 2; omega
  · show 128 * h + 1 * l.val = 128 * ((2 + h) % 2) + l.val; omega
  · show (32 * r + 1 * k.val) / 8 = (8 * r + k.val / 4) / 2; omega
  · show (32 * r + 1 * k.val) % 8 = k.val % 8; omega

theorem mem_tileStores : ∀ (n : Nat) (hn : n ≤ 32) (p : View.Piece (Elt F) S1024x256 .bf16), p ∈ tileStores c arg2 harg2 arg3 harg3 arg6 arg7 x1 x2 n hn →
    ∃ r h hr hh, p = tileStore c arg2 harg2 arg3 harg3 arg6 arg7 x1 x2 r h hr hh
  | 0, _, p, h => absurd h List.not_mem_nil
  | n + 1, hn, p, h => by
    unfold tileStores at h
    simp only [List.mem_cons] at h
    rcases h with h | h | h
    · exact ⟨n, 1, _, _, h⟩
    · exact ⟨n, 0, _, _, h⟩
    · exact mem_tileStores n _ p h

theorem tileStore_mem : ∀ (n : Nat) (hn : n ≤ 32) (r i : Nat) (hr : r < 32) (hi : i < 2), r < n →
    tileStore c arg2 harg2 arg3 harg3 arg6 arg7 x1 x2 r i hr hi ∈ tileStores c arg2 harg2 arg3 harg3 arg6 arg7 x1 x2 n hn
  | 0, _, _, _, _, _, h => absurd h (Nat.not_lt_zero _)
  | n + 1, hn, r, i, hr, hi, h => by
    unfold tileStores
    simp only [List.mem_cons]
    rcases Nat.lt_succ_iff_lt_or_eq.mp h with h | rfl
    · exact Or.inr (Or.inr (tileStore_mem n _ r i hr hi h))
    · match i, hi with
      | 0, _ => exact Or.inr (Or.inl rfl)
      | 1, _ => exact Or.inl rfl

/-- The sixty-four tiles fill the weight scratch, which the product then reads whole. -/
theorem weight_read : kernelRun0_A.sl.v4230 c arg2 harg2 arg3 harg3 arg6 arg7 arg8 x1 x2 = weight x1 x2 := by
  unfold kernelRun0_A.sl.v4230
  rw [View.readCov_eq_canon', HS2_eq]
  funext j
  have key (y : S1024x256.Idx) : View.canon (tileStores c arg2 harg2 arg3 harg3 arg6 arg7 x1 x2 32 (Nat.le_refl 32)) y = weight x1 x2 y := by
    have hy0 : (y 0).val < 1024 := (y 0).isLt
    have hy1 : (y 1).val < 256 := (y 1).isLt
    refine View.canon_apply_of_pieces (weight x1 x2) _ (fun p hp x => ?_) y
      ⟨tileStore c arg2 harg2 arg3 harg3 arg6 arg7 x1 x2 ((y 0).val / 32) ((y 1).val / 128) (by omega) (by omega),
        tileStore_mem c arg2 harg2 arg3 harg3 arg6 arg7 x1 x2 32 _ _ _ _ _ (by omega), ?_⟩
    · obtain ⟨r, h, hr, hh, rfl⟩ := mem_tileStores c arg2 harg2 arg3 harg3 arg6 arg7 x1 x2 32 _ p hp
      exact tile_agrees c arg2 harg2 arg3 harg3 arg6 arg7 x1 x2 r h hr hh x
    · rw [LoadRect.mem_set]
      intro a
      match a with
      | ⟨0, _⟩ => exact ⟨(y 0).val % 32, show (y 0).val % 32 < 32 by omega, show (y 0).val = 32 * ((y 0).val / 32) + 1 * ((y 0).val % 32) by omega⟩
      | ⟨1, _⟩ => exact ⟨(y 1).val % 128, show (y 1).val % 128 < 128 by omega, show (y 1).val = 128 * ((y 1).val / 128) + 1 * ((y 1).val % 128) by omega⟩
  refine (key _).trans (congrArg (weight x1 x2) (funext fun a => Fin.ext ?_))
  match a with
  | ⟨0, _⟩ => show 0 + 1 * (j 0).val = (j 0).val; omega
  | ⟨1, _⟩ => show 0 + 1 * (j 1).val = (j 1).val; omega

end Cert.KernelIdeal.Hand
-- ==== Proof.Block.lean ====
/-
  What one grid point writes back at the ideal values: at row `r` and column `n` of its block, the dot product of row `r` of the
  activations with column `n` of the decoded weight, times the scale of column `n`.
-/
module

public import proofs.«01_k».proof.Proof.Weight
public import Idealize.ShloMosaic.PureOps.Ideal.Laws

@[expose] public section

set_option maxRecDepth 16384

noncomputable section

namespace Cert.KernelIdeal.Hand

open Cert.KernelIdeal Cert.KernelIdeal.Gen Idealize.ShloMosaic Idealize.ShloMosaic.TcCoe Idealize.SL.Sem ValueIdx

/-- The contraction of the kernel's product runs over the 1024 input features. -/
abbrev kDot : DotDims S1920x1024 S1024x256 S1920x256 := dot_S1920x1024_S1024x256_S1920x256_1_0_0_1_n_n

theorem matmul_at (X : FVec Ideal S1920x1024 .bf16) (W : FVec Ideal S1024x256 .bf16) (j : S1920x256.Idx) :
    FloatOps.matmul kDot none X W (constant S1920x256 .f32 0x00000000#32) j
      = ∑ k : Fin 1024, X (ix2 (j 0) k) * W (ix2 k (j 1)) := by
  rw [Ideal.matmul_constant_zero_apply, ← Equiv.sum_comp (contrEquiv1 kDot 1024 rfl rfl).symm]
  refine Finset.sum_congr rfl fun k _ => ?_
  have hk := contrEquiv1_symm_val kDot 1024 rfl rfl k
  have hl : kDot.lhsIdx j ((contrEquiv1 kDot 1024 rfl rfl).symm k) = ix2 (j 0) k := by
    funext a
    match a with
    | ⟨0, _⟩ => rfl
    | ⟨1, _⟩ => exact Fin.ext ((kDot.lhsIdx_val_of_single rfl j _).trans hk)
  have hr : kDot.rhsIdx j ((contrEquiv1 kDot 1024 rfl rfl).symm k) = ix2 k (j 1) := by
    funext a
    match a with
    | ⟨0, _⟩ => exact Fin.ext ((kDot.rhsIdx_val_of_single rfl j _).trans hk)
    | ⟨1, _⟩ => rfl
  rw [hl, hr]
  rfl

/-- The block's value. -/
def outBlock (x0 : FVec Ideal S1920x1024 .bf16) (x1 : Vec Ideal S2x256x128 .i8) (x2 : Vec Ideal S2x8x256 .i8)
    (x3 : FVec Ideal S1x256 .f32) : FVec Ideal S1920x256 .bf16 :=
  fun y => (∑ k : Fin 1024, x0 (ix2 (y 0) k) * weight (F := Ideal) x1 x2 (ix2 k (y 1))) * x3 (ix2 0 (y 1))

theorem pay_eq (x0 : FVec Ideal S1920x1024 .bf16) (W : Vec Ideal S1024x256 .bf16) (x3 : FVec Ideal S1x256 .f32) (y : S1920x256.Idx) :
    k0_pay1 (F := Ideal) x0 W x3 y = (∑ k : Fin 1024, x0 (ix2 (y 0) k) * (W : FVec Ideal S1024x256 .bf16) (ix2 k (y 1))) * x3 (ix2 0 (y 1)) := by
  obtain ⟨r, n, rfl⟩ : ∃ r n, y = ix2 r n := ⟨y 0, y 1, eq_ix2 y⟩
  unfold k0_pay1
  show FloatOps.matmul kDot none x0 W (constant S1920x256 .f32 0x00000000#32) (ix2 r n) * _ = _
  rw [matmul_at, broadcastTo_1b_ab_apply, shapeCast_self]

theorem out_eq (c : Dev nD) (i : grid0.Coords) (arg1 : Memref sig .tc .vmem S1920x1024 .bf16) (harg1 : arg1.IsWhole)
    (arg2 : Memref sig .tc .vmem S2x256x128 .i8) (harg2 : arg2.IsWhole) (arg3 : Memref sig .tc .vmem S2x8x256 .i8) (harg3 : arg3.IsWhole)
    (arg4 : Memref sig .tc .vmem S1x256 .f32) (harg4 : arg4.IsWhole) (arg5 : Memref sig .tc .vmem S1920x256 .bf16) (harg5 : arg5.IsWhole)
    (arg6 : Memref sig .tc .vmem S128x128 .i32) (harg6 : arg6.IsWhole) (arg7 : Memref sig .tc .vmem S256x128 .i32) (harg7 : arg7.IsWhole)
    (arg8 : Memref sig .tc .vmem S1024x256 .bf16) (harg8 : arg8.IsWhole)
    (x0 : Vec Ideal S1920x1024 .bf16) (x1 : Vec Ideal S2x256x128 .i8) (x2 : Vec Ideal S2x8x256 .i8) (x3 : Vec Ideal S1x256 .f32) :
    out0_A_4 c i arg1 harg1 arg2 harg2 arg3 harg3 arg4 harg4 arg5 harg5 arg6 harg6 arg7 harg7 arg8 harg8 x0 x1 x2 x3 = outBlock x0 x1 x2 x3 := by
  have hz : (![0, 0] : Fin 2 → Nat) = fun _ => 0 := by decide
  have h0 : kernelRun0_A.sl.r_216 (F := Ideal) c arg1 harg1 x0 = x0 := by
    unfold kernelRun0_A.sl.r_216 k0_pay369
    rw [shapeCast_self]
    funext y
    rw [harg1.readAt_unread]
    refine congrArg x0 (funext fun a => Fin.ext ?_)
    match a with
    | ⟨0, _⟩ => show 0 + 1 * (y 0).val = (y 0).val; omega
    | ⟨1, _⟩ => show 0 + 1 * (y 1).val = (y 1).val; omega
  unfold out0_A_4
  rw [View.read_writes_junk_eq_canon]
  unfold kernelRun0_A
  dsimp only
  rw [View.canon_unit_zero hz, h0, weight_read]
  funext y
  rw [pay_eq]
  unfold outBlock
  congr 1
  rw [harg4.readAt_unread]
  refine congrArg x3 (funext fun a => Fin.ext ?_)
  match a with
  | ⟨0, _⟩ => rfl
  | ⟨1, _⟩ => show 0 + 1 * (y 1).val = (y 1).val; omega

end Cert.KernelIdeal.Hand
-- ==== Proof.Array.lean ====
/-
  The kernel's result as one function of the four arguments, at the ideal values: at batch `b`, position `s` and output feature
  `o`, the sum over the 1024 input features `k` of the activation times the two code vectors' entries that feature `o`, group
  `k / 8` names, all times the scale of feature `o`. The array that the grid fills is this with batch and position flattened.
-/
module

public import proofs.«01_k».proof.Proof.Block
public import proofs.«01_k».proof.Proof.Gen.KernelIdeal.Run
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-- Codebook `q`'s share of the weight of input feature `k` in output feature `o`. -/
def share (a1 : Vec Ideal S3584x128x2 .i8) (a2 : Vec Ideal S2x256x8 .i8) (q : Fin 2) (k : Fin 1024) (o : Fin 3584) : EReal :=
  decode (F := Ideal) (a2 (ValueIdx.ix3 q ⟨(a1 (ValueIdx.ix3 o ⟨k.val / 8, by omega⟩ q) : BitVec 8).toNat, (a1 (ValueIdx.ix3 o ⟨k.val / 8, by omega⟩ q) : BitVec 8).isLt⟩ ⟨k.val % 8, by omega⟩))

/-- The result: the activations times the decoded weight, times the scales. -/
def layer (a0 : FVec Ideal S5x384x1024 .bf16) (a1 : Vec Ideal S3584x128x2 .i8) (a2 : Vec Ideal S2x256x8 .i8) (a3 : FVec Ideal S3584 .f32) :
    FVec Ideal S5x384x3584 .bf16 := fun i =>
  (∑ k : Fin 1024, a0 (ValueIdx.ix3 (i 0) (i 1) k) * (share a1 a2 0 k (i 2) + share a1 a2 1 k (i 2))) * a3 (ValueIdx.ix1 (i 2))

/-- The result with its first two axes flattened: what the grid writes. -/
def result (a0 : FVec Ideal S5x384x1024 .bf16) (a1 : Vec Ideal S3584x128x2 .i8) (a2 : Vec Ideal S2x256x8 .i8) (a3 : FVec Ideal S3584 .f32) :
    FVec Ideal S1920x3584 .bf16 := fun i =>
  layer a0 a1 a2 a3 (ValueIdx.ix3 (⟨(i 0).val / 384, by have : (i 0).val < 1920 := (i 0).isLt; omega⟩ : Fin 5) (⟨(i 0).val % 384, by omega⟩ : Fin 384) (i 1))

variable (m : (ℓ : Loc nD τ sig) → Buf (Elt Ideal) ℓ)

/-- Where each window's block sits at a grid point. -/
theorem idx : ∀ t : Fin cfg0.N, win0_0.index t = ![0, 0] ∧ win0_1.index t = ![0, t.val, 0] ∧ win0_2.index t = ![0, 0, 0]
    ∧ win0_3.index t = ![0, t.val] ∧ win0_4.index t = ![0, t.val] :=
  (by decide +kernel : ∀ t : Fin grid0.N, _)

theorem V_v0 (c : Dev nD) : V m c main_v0 = shapeCast S1920x1024 (m ((c : Thread nD τ).loc main_arg0)) shapeCasts_S5x384x1024_S1920x1024 := by
  entry_read
  rfl

theorem V_v1 (c : Dev nD) : V m c main_v1 = transpose S2x3584x128 [2, 0, 1] (m ((c : Thread nD τ).loc main_arg1)) transposes_S3584x128x2_S2x3584x128_2_0_1 := by
  entry_read
  rfl

theorem V_v2 (c : Dev nD) : V m c main_v2 = transpose S2x8x256 [0, 2, 1] (m ((c : Thread nD τ).loc main_arg2)) transposes_S2x256x8_S2x8x256_0_2_1 := by
  entry_read
  rfl

theorem V_v3 (c : Dev nD) : V m c main_v3 = shapeCast S1x3584 (m ((c : Thread nD τ).loc main_arg3)) shapeCasts_S3584_S1x3584 := by
  entry_read
  rfl

/-- Each window's block read at an index, in the arguments' own coordinates. -/
theorem iblk0 (c : Dev nD) (t : Fin cfg0.N) (r : Fin 1920) (k : Fin 1024) :
    (show FVec Ideal S1920x1024 .bf16 from iblk m c 0 t) (ValueIdx.ix2 r k)
      = (show FVec Ideal S5x384x1024 .bf16 from m ((c : Thread nD τ).loc main_arg0)) (ValueIdx.ix3 (⟨r.val / 384, by omega⟩ : Fin 5) (⟨r.val % 384, by omega⟩ : Fin 384) k) := by
  have e0 : ((win0_0.blk t).view.emb (ValueIdx.ix2 r k) 0).val = r.val := by blk_simp [idx t] <;> rfl
  have e1 : ((win0_0.blk t).view.emb (ValueIdx.ix2 r k) 1).val = k.val := by blk_simp [idx t] <;> rfl
  blk_simp [iblk]
  refine (congrFun (V_v0 m c) _).trans (shapeCast_apply _ _ _ _ ?_)
  show (S5x384x1024.rowMajor _).val = _
  rw [Shape.rowMajor_val_three, Shape.rowMajor_val_two]
  show (r.val / 384 * 384 + r.val % 384) * 1024 + k.val = _ * 1024 + _
  rw [e0, e1]
  omega

theorem iblk1 (c : Dev nD) (t : Fin cfg0.N) (ht : t.val < 14) (q : Fin 2) (n : Fin 256) (g : Fin 128) :
    (show Vec Ideal S2x256x128 .i8 from iblk m c 1 t) (ValueIdx.ix3 q n g)
      = (show Vec Ideal S3584x128x2 .i8 from m ((c : Thread nD τ).loc main_arg1)) (ValueIdx.ix3 (⟨256 * t.val + n.val, by omega⟩ : Fin 3584) g q) := by
  have e0 : ((win0_1.blk t).view.emb (ValueIdx.ix3 q n g) 0).val = q.val := by blk_simp [idx t] <;> rfl
  have e1 : ((win0_1.blk t).view.emb (ValueIdx.ix3 q n g) 1).val = 256 * t.val + n.val := by blk_simp [idx t] <;> (show t.val * 256 + _ = _; first | exact congrArg (· + _) (Nat.mul_comm _ _) | omega)
  have e2 : ((win0_1.blk t).view.emb (ValueIdx.ix3 q n g) 2).val = g.val := by blk_simp [idx t] <;> rfl
  blk_simp [iblk]
  refine (congrFun (V_v1 m c) _).trans (transpose_apply _ _ _ _ _ fun b => ?_)
  match b with
  | ⟨0, _⟩ => exact e0.symm
  | ⟨1, _⟩ => exact e1.symm
  | ⟨2, _⟩ => exact e2.symm

theorem iblk2 (c : Dev nD) (t : Fin cfg0.N) (q : Fin 2) (d : Fin 8) (j : Fin 256) :
    (show Vec Ideal S2x8x256 .i8 from iblk m c 2 t) (ValueIdx.ix3 q d j)
      = (show Vec Ideal S2x256x8 .i8 from m ((c : Thread nD τ).loc main_arg2)) (ValueIdx.ix3 q j d) := by
  have e0 : ((win0_2.blk t).view.emb (ValueIdx.ix3 q d j) 0).val = q.val := by blk_simp [idx t] <;> rfl
  have e1 : ((win0_2.blk t).view.emb (ValueIdx.ix3 q d j) 1).val = d.val := by blk_simp [idx t] <;> rfl
  have e2 : ((win0_2.blk t).view.emb (ValueIdx.ix3 q d j) 2).val = j.val := by blk_simp [idx t] <;> rfl
  blk_simp [iblk]
  refine (congrFun (V_v2 m c) _).trans (transpose_apply _ _ _ _ _ fun b => ?_)
  match b with
  | ⟨0, _⟩ => exact e0.symm
  | ⟨1, _⟩ => exact e1.symm
  | ⟨2, _⟩ => exact e2.symm

theorem iblk3 (c : Dev nD) (t : Fin cfg0.N) (ht : t.val < 14) (n : Fin 256) :
    (show FVec Ideal S1x256 .f32 from iblk m c 3 t) (ValueIdx.ix2 0 n)
      = (show FVec Ideal S3584 .f32 from m ((c : Thread nD τ).loc main_arg3)) (ValueIdx.ix1 (⟨256 * t.val + n.val, by omega⟩ : Fin 3584)) := by
  have e0 : ((win0_3.blk t).view.emb (ValueIdx.ix2 0 n) 0).val = 0 := by blk_simp [idx t] <;> rfl
  have e1 : ((win0_3.blk t).view.emb (ValueIdx.ix2 0 n) 1).val = 256 * t.val + n.val := by blk_simp [idx t] <;> (show t.val * 256 + _ = _; first | exact congrArg (· + _) (Nat.mul_comm _ _) | omega)
  blk_simp [iblk]
  refine (congrFun (V_v3 m c) _).trans (shapeCast_apply _ _ _ _ ?_)
  show (S3584.rowMajor _).val = _
  rw [Shape.rowMajor_val_one, Shape.rowMajor_val_two]
  show 256 * t.val + n.val = _ * 3584 + _
  rw [e0, e1]
  omega

/-- A codebook's share of the block's weight is its share of the whole weight at the block's column. -/
theorem part_share (c : Dev nD) (t : Fin cfg0.N) (ht : t.val < 14) (q : Fin 2) (k : Fin 1024) (n : Fin 256) :
    part (F := Ideal) (iblk m c 1 t) (iblk m c 2 t) q k n
      = share (m ((c : Thread nD τ).loc main_arg1)) (m ((c : Thread nD τ).loc main_arg2)) q k ⟨256 * t.val + n.val, by omega⟩ := by
  have h1 := iblk1 m c t ht q n ⟨k.val / 8, by omega⟩
  unfold part share entry code
  refine congrArg (decode (F := Ideal)) ((iblk2 m c t q _ _).trans (congrArg _ ?_))
  exact congrArg (fun j => ValueIdx.ix3 q j (⟨k.val % 8, by omega⟩ : Fin 8)) (Fin.ext (congrArg BitVec.toNat h1))

/-- What a grid point writes back is the result under its block. -/
theorem point (c : Dev nD) (t : Fin cfg0.N) (ht : t.val < 14) (y : S1920x256.Idx) :
    outBlock (iblk m c 0 t) (iblk m c 1 t) (iblk m c 2 t) (iblk m c 3 t) y
      = result (m ((c : Thread nD τ).loc main_arg0)) (m ((c : Thread nD τ).loc main_arg1)) (m ((c : Thread nD τ).loc main_arg2)) (m ((c : Thread nD τ).loc main_arg3))
          (ValueIdx.ix2 (y 0) (⟨256 * t.val + (y 1).val, by have : (y 1).val < 256 := (y 1).isLt; omega⟩ : Fin 3584)) := by
  obtain ⟨r, n, rfl⟩ : ∃ r n, y = ValueIdx.ix2 r n := ⟨y 0, y 1, ValueIdx.eq_ix2 y⟩
  unfold outBlock result layer
  refine congrArg₂ (· * ·) (Finset.sum_congr rfl fun k _ => congrArg₂ (· * ·) (iblk0 m c t r k) ?_) (iblk3 m c t ht n)
  exact congrArg₂ (· + ·) (part_share m c t ht 0 k n) (part_share m c t ht 1 k n)

/-- The array the grid fills. -/
theorem final (c : Dev nD) : (dats m 0 c).arrAt 4 cfg0.N
    = result (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 14 := t.isLt
  have e0 : ((win0_4.blk t).view.emb y 0).val = (y 0).val := by blk_simp [idx t] <;> rfl
  have e1 : ((win0_4.blk t).view.emb y 1).val = 256 * t.val + (y 1).val := by blk_simp [idx t] <;> (show t.val * 256 + _ = _; first | exact congrArg (· + _) (Nat.mul_comm _ _) | omega)
  blk_simp
  rw [after0_4]
  simp only [outsAt0]
  rw [out_eq]
  refine (point m c t ht y).trans (congrArg _ (funext fun a => Fin.ext ?_))
  match a with
  | ⟨0, _⟩ => exact e0.symm
  | ⟨1, _⟩ => exact e1.symm

/-- The kernel's last operation gives the flattened axes back. -/
theorem unflatten (a0 : FVec Ideal S5x384x1024 .bf16) (a1 : Vec Ideal S3584x128x2 .i8) (a2 : Vec Ideal S2x256x8 .i8) (a3 : FVec Ideal S3584 .f32)
    (h : S1920x3584.ShapeCasts S5x384x3584) : shapeCast S5x384x3584 (result a0 a1 a2 a3) h = layer a0 a1 a2 a3 := by
  funext i
  obtain ⟨b, s, o, rfl⟩ : ∃ b s o, i = ValueIdx.ix3 b s o := ⟨i 0, i 1, i 2, ValueIdx.eq_ix3 i⟩
  refine (shapeCast_apply _ _ _ (ValueIdx.ix2 (⟨384 * b.val + s.val, by omega⟩ : Fin 1920) o) ?_).trans ?_
  · rw [Shape.rowMajor_val_three, Shape.rowMajor_val_two]
    show (384 * b.val + s.val) * 3584 + o.val = (b.val * 384 + s.val) * 3584 + o.val
    omega
  · refine congrArg (layer a0 a1 a2 a3) (funext fun a => Fin.ext ?_)
    match a with
    | ⟨0, _⟩ => show (384 * b.val + s.val) / 384 = b.val; omega
    | ⟨1, _⟩ => show (384 * b.val + s.val) % 384 = s.val; omega
    | ⟨2, _⟩ => rfl

/-- The kernel's run ends with the layer's value and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v5) = layer (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans ?_, (h c).2⟩) (Value.run m ρ)
  have e : Value.reg_main_v4 m c = _ := final m c
  rw [e]
  exact unflatten _ _ _ _ _

end Cert.KernelIdeal.Hand
-- ==== Proof.Table.lean ====
/-
  What the reference's region leaves: the codebook's bytes, read as fp8 numbers on the host and widened by the region.
-/
module

public import proofs.«01_k».proof.Proof.Gen.ReferenceIdeal.Run
public import proofs.«01_k».proof.Proof.Gen.ReferenceIdeal.Frame
public import Idealize.ShloMosaic.Lib.Pipeline.ValueKit

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

/-- The codebooks' entries: each byte's fp8 value, widened. -/
def table (a2 : Vec Ideal S2x256x8 .i8) : FVec Ideal S2x256x8 .f32 := fun i =>
  FloatOps.extf (F := Ideal) .f32 bitsLt_fp8e4m3_f32 (FloatOps.ofBits .fp8e4m3 (a2 i))

variable (m : (ℓ : Loc nD τ sig) → Buf (Elt Ideal) ℓ)

theorem idx : ∀ t : Fin cfg0.N, win0_0.index t = ![0, 0, 0] ∧ win0_1.index t = ![0, 0, 0] :=
  (by decide +kernel : ∀ t : Fin grid0.N, _)

theorem V_v0 (c : Dev nD) : V m c main_v0 = bitcastToFloat (F := Ideal) .fp8e4m3 (m ((c : Thread nD τ).loc main_arg2) : Vec Ideal S2x256x8 .i8) := by
  entry_read
  rfl

theorem iblk0 (c : Dev nD) (t : Fin cfg0.N) : iblk m c 0 t = V m c main_v0 := by
  blk_ext! [iblk, idx t]

theorem reg_eq (c : Dev nD) : Value.reg_main_v1 m c = table (m ((c : Thread nD τ).loc main_arg2)) := by
  unfold Value.reg_main_v1
  refine (dats m 0 c).arrAt_eq_of_covers 1 _ (by decide +kernel) fun t _ y => ?_
  blk_simp
  rw [after0_1]
  frame_out
  rw [iblk0, V_v0]
  unfold k0_pay1 table
  rw [shapeCast_self]
  refine congrArg (fun i => FloatOps.extf (F := Ideal) .f32 bitsLt_fp8e4m3_f32 (FloatOps.ofBits .fp8e4m3 ((m ((c : Thread nD τ).loc main_arg2) : Vec Ideal S2x256x8 .i8) i))) ?_
  blk_ext [idx t]

end Cert.ReferenceIdeal.Hand
-- ==== Proof.Gather.lean ====
/-
  The reference's table lookup read at an index: at (output feature, group, codebook, entry) it is that entry of the code vector
  that the code byte names. A code is a byte, so neither jax's wrap of negative indices nor the gather's clamp ever acts.
-/
module

public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem ValueIdx

variable {F : FTy → Type} [FloatOps F]

/-- The lookup's dimension numbers: axes 0 and 1 of the table are indexed, axis 2 is copied. -/
abbrev lookup : GatherDims S2x256x8 S3584x128x2x2 S3584x128x2x8 := gather_S2x256x8_S3584x128x2x2_S3584x128x2x8_3_01_n_n_01_3_118

/-- A pair of indices in range is used as it is. -/
theorem lookup_apply {α : Type} (x : S2x256x8.Idx → α) (s : IVec S3584x128x2x2 32) (o : Fin 3584) (g : Fin 128) (q : Fin 2) (d : Fin 8)
    (u : Fin 2) (v : Fin 256) (hu : (s (ix4 o g q 0)).toInt.toNat = u.val) (hv : (s (ix4 o g q 1)).toInt.toNat = v.val) :
    Host.gather lookup x s (ix4 o g q d) = x (ix3 u v d) := by
  unfold Host.gather
  refine congrArg x (funext fun a => Fin.ext ?_)
  show lookup.start (ix4 o g q d) s a + lookup.batchCoord (ix4 o g q d) a + lookup.offCoord (ix4 o g q d) a = _
  rw [GatherDims.batchCoord_eq_zero _ _ _ List.not_mem_nil]
  match a with
  | ⟨0, _⟩ =>
    have hs : lookup.siIdx (ix4 o g q d) ⟨0, by decide⟩ = ix4 o g q 0 := by
      funext b
      match b with
      | ⟨0, _⟩ => rfl
      | ⟨1, _⟩ => rfl
      | ⟨2, _⟩ => rfl
      | ⟨3, _⟩ => rfl
    show lookup.start (ix4 o g q d) s (0 : Fin 3) + 0 + lookup.offCoord (ix4 o g q d) (0 : Fin 3) = u.val
    rw [GatherDims.offCoord_eq_zero _ _ _ (by decide)]
    have e : lookup.start (ix4 o g q d) s (0 : Fin 3) = min (s (ix4 o g q 0)).toInt.toNat (2 - 1) := by
      unfold GatherDims.start
      rw [dif_pos (by decide)]
      exact congrArg (fun i => min (s i).toInt.toNat (2 - 1)) hs
    rw [e, hu]
    omega
  | ⟨1, _⟩ =>
    have hs : lookup.siIdx (ix4 o g q d) ⟨1, by decide⟩ = ix4 o g q 1 := by
      funext b
      match b with
      | ⟨0, _⟩ => rfl
      | ⟨1, _⟩ => rfl
      | ⟨2, _⟩ => rfl
      | ⟨3, _⟩ => rfl
    show lookup.start (ix4 o g q d) s (1 : Fin 3) + 0 + lookup.offCoord (ix4 o g q d) (1 : Fin 3) = v.val
    rw [GatherDims.offCoord_eq_zero _ _ _ (by decide)]
    have e : lookup.start (ix4 o g q d) s (1 : Fin 3) = min (s (ix4 o g q 1)).toInt.toNat (256 - 1) := by
      unfold GatherDims.start
      rw [dif_pos (by decide)]
      exact congrArg (fun i => min (s i).toInt.toNat (256 - 1)) hs
    rw [e, hv]
    omega
  | ⟨2, _⟩ =>
    show lookup.start (ix4 o g q d) s (2 : Fin 3) + 0 + lookup.offCoord (ix4 o g q d) (2 : Fin 3) = d.val
    have e : lookup.start (ix4 o g q d) s (2 : Fin 3) = 0 := by
      unfold GatherDims.start
      rw [dif_neg (by decide)]
    rw [e, Nat.zero_add]
    rfl

/-- A word that is not negative as a signed number is left alone by the wrap of negative indices. -/
theorem wrap_of_lt (x k : BitVec 32) (h : x.toNat < 256) :
    Scalar.select (IntOp.cmpi .slt x 0#32) (IntOp.addi x k) x = x := by
  have e : IntOp.cmpi .slt x 0#32 = 0#1 := by
    show BitVec.ofBool (x.slt 0#32) = 0#1
    rw [BitVec.slt_zero_eq_msb, BitVec.msb_eq_false_iff_two_mul_lt.mpr (by omega)]
    rfl
  rw [e]
  rfl

theorem toInt_of_lt (x : BitVec 32) (h : x.toNat < 256) : x.toInt.toNat = x.toNat := by
  rw [BitVec.toInt_eq_toNat_of_lt (by omega)]
  rfl

/-- The first start index is the codebook's number. -/
theorem index0 (x1 : (⟨S3584x128x2, .i8⟩ : BufTy).Contents (Elt F)) (o : Fin 3584) (g : Fin 128) (q : Fin 2) :
    val_main_v17 (F := F) x1 (ix4 o g q 0) = BitVec.ofNat 32 q.val := by
  unfold val_main_v17
  refine (concatenate_pair_apply_left (t := S3584x128x2x2) (s₁ := S3584x128x2x1) (s₂ := S3584x128x2x1) 3 _ _ _ _ rfl (ix4 o g q 0) fun b => ?_).trans ?_
  · match b with
    | ⟨0, _⟩ => rfl
    | ⟨1, _⟩ => rfl
    | ⟨2, _⟩ => rfl
    | ⟨3, _⟩ => rfl
  rw [val_main_v15_apply, val_main_v14_apply, val_main_v8_apply, val_main_v5_apply, val_main_v7_apply, val_main_v4_apply, val_main_c_apply]
  have hq : val_main_v2 (F := F) (idx_main_v14 (idx_main_v15 (ix4 o g q 0))) = BitVec.ofNat 32 q.val := rfl
  rw [hq]
  refine wrap_of_lt _ _ ?_
  rw [BitVec.toNat_ofNat, Nat.mod_eq_of_lt (by omega)]
  omega

/-- The second start index is the code, zero-extended. -/
theorem index1 (x1 : (⟨S3584x128x2, .i8⟩ : BufTy).Contents (Elt F)) (o : Fin 3584) (g : Fin 128) (q : Fin 2) :
    val_main_v17 (F := F) x1 (ix4 o g q 1) = (x1 (ix3 o g q) : BitVec 8).setWidth 32 := by
  unfold val_main_v17
  refine (concatenate_pair_apply_right (t := S3584x128x2x2) (s₁ := S3584x128x2x1) (s₂ := S3584x128x2x1) 3 _ _ _ _ rfl rfl (ix4 o g q 0) (fun b hb => ?_) rfl).trans ?_
  · match b with
    | ⟨0, _⟩ => rfl
    | ⟨1, _⟩ => rfl
    | ⟨2, _⟩ => rfl
    | ⟨3, _⟩ => exact absurd rfl hb
  rw [val_main_v16_apply, val_main_v13_apply, val_main_v10_apply, val_main_v12_apply, val_main_v9_apply, val_main_c_1_apply]
  have hq : val_main_v3 (F := F) x1 (idx_main_v16 (ix4 o g q 0)) = (x1 (ix3 o g q) : BitVec 8).setWidth 32 := by
    rw [val_main_v3_apply]
    have e : idx_main_v16 (ix4 o g q 0) = ix3 o g q := by
      funext b
      match b with
      | ⟨0, _⟩ => rfl
      | ⟨1, _⟩ => rfl
      | ⟨2, _⟩ => rfl
    rw [e]
  rw [hq]
  refine wrap_of_lt _ _ ?_
  rw [BitVec.toNat_setWidth]
  have := (x1 (ix3 o g q) : BitVec 8).isLt
  omega

/-- The lookup: the entry of the code vector that the code names. -/
theorem v18_at (x1 : (⟨S3584x128x2, .i8⟩ : BufTy).Contents (Elt F)) (r0 : (⟨S2x256x8, .f32⟩ : BufTy).Contents (Elt F))
    (o : Fin 3584) (g : Fin 128) (q : Fin 2) (d : Fin 8) :
    val_main_v18 (F := F) x1 r0 (ix4 o g q d) = r0 (ix3 q ⟨(x1 (ix3 o g q) : BitVec 8).toNat, (x1 (ix3 o g q) : BitVec 8).isLt⟩ d) := by
  unfold val_main_v18
  have hb := (x1 (ix3 o g q) : BitVec 8).isLt
  refine lookup_apply r0 _ o g q d q _ ?_ ?_
  · rw [index0]
    have h : (BitVec.ofNat 32 q.val).toNat = q.val := by rw [BitVec.toNat_ofNat, Nat.mod_eq_of_lt (by omega)]
    rw [toInt_of_lt _ (by omega), h]
  · rw [index1]
    have h : ((x1 (ix3 o g q) : BitVec 8).setWidth 32).toNat = (x1 (ix3 o g q) : BitVec 8).toNat := by
      rw [BitVec.toNat_setWidth, Nat.mod_eq_of_lt (by omega)]
    rw [toInt_of_lt _ (by omega), h]

end Cert.ReferenceIdeal.Hand
-- ==== Proof.Reference.lean ====
/-
  The reference's result at an index, at the ideal values: at batch `b`, position `s` and output feature `o`, the sum over the
  input features `k` of the activation times the sum over the two codebooks of the looked-up entries, all times the scale of feature `o`.
-/
module

public import proofs.«01_k».proof.Proof.Gather
public import Idealize.ShloMosaic.PureOps.Ideal.Laws

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem ValueIdx

variable (x0 : FVec Ideal S5x384x1024 .bf16) (x1 : Vec Ideal S3584x128x2 .i8) (x3 : FVec Ideal S3584 .f32) (r0 : FVec Ideal S2x256x8 .f32)

/-- Codebook `q`'s looked-up entry for input feature `k` of output feature `o`. -/
def found (q : Fin 2) (k : Fin 1024) (o : Fin 3584) : EReal :=
  r0 (ix3 q ⟨(x1 (ix3 o ⟨k.val / 8, by omega⟩ q) : BitVec 8).toNat, (x1 (ix3 o ⟨k.val / 8, by omega⟩ q) : BitVec 8).isLt⟩ ⟨k.val % 8, by omega⟩)

/-- The reference's weight: the two looked-up entries summed. -/
theorem v21_at (o : Fin 3584) (k : Fin 1024) :
    val_main_v21 (F := Ideal) x1 r0 (ix2 o k) = found x1 r0 0 k o + found x1 r0 1 k o := by
  have hi (q : Fin 2) : idx_main_v19 (idx_main_v21 (ix2 o k)) q = ix4 o ⟨k.val / 8, by omega⟩ q ⟨k.val % 8, by omega⟩ := by
    funext a
    refine Fin.ext ?_
    match a with
    | ⟨0, _⟩ => show (o.val * 1024 + k.val) / 1024 = o.val; omega
    | ⟨1, _⟩ => show (o.val * 1024 + k.val) / 8 % 128 = k.val / 8; omega
    | ⟨2, _⟩ => rfl
    | ⟨3, _⟩ => show (o.val * 1024 + k.val) % 8 = k.val % 8; omega
  rw [val_main_v21_apply, val_main_v20_apply]
  show val_main_v19 (F := Ideal) x1 r0 (idx_main_v21 (ix2 o k)) = _
  rw [val_main_v19_apply, Fin.sum_univ_two, hi, hi, v18_at, v18_at]
  show Ideal.ofBits .f32 0x00000000#32 + _ = _
  rw [Ideal.ofBits_zero_f32, zero_add]
  rfl

/-- The reference's result. -/
theorem v26_at (b : Fin 5) (s : Fin 384) (o : Fin 3584) :
    val_main_v26 (F := Ideal) x0 x1 x3 r0 (ix3 b s o)
      = (∑ k : Fin 1024, x0 (ix3 b s k) * (found x1 r0 0 k o + found x1 r0 1 k o)) * x3 (ix1 o) := by
  rw [val_main_v26_apply, val_main_v25_apply]
  refine congrArg₂ (fun a b : EReal => a * b) ?_ ?_
  · rw [val_main_v22_apply]
    refine Finset.sum_congr rfl fun k _ => ?_
    have hl : lidx_main_v22 (ix3 b s o) k = ix3 b s k := by
      funext a
      match a with
      | ⟨0, _⟩ => rfl
      | ⟨1, _⟩ => rfl
      | ⟨2, _⟩ => rfl
    have hr : ridx_main_v22 (ix3 b s o) k = ix2 o k := by
      funext a
      match a with
      | ⟨0, _⟩ => rfl
      | ⟨1, _⟩ => rfl
    rw [hl, hr, v21_at]
  · rw [val_main_v24_apply, val_main_v23_apply]
    refine congrArg x3 (funext fun a => ?_)
    match a with
    | ⟨0, _⟩ => rfl

end Cert.ReferenceIdeal.Hand
-- ==== Proof.Equation.lean ====
/-
  The equation: the reference's result is the kernel's. Element by element the two are one sum of products: the fp8 value of a
  codebook byte is the same number whether it is widened to bf16 (the kernel) or to f32 (the reference).
-/
module

public import proofs.«01_k».proof.Proof.Array
public import proofs.«01_k».proof.Proof.Table
public import proofs.«01_k».proof.Proof.Reference

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe Idealize.SL.Sem

/-- The looked-up entry is the kernel's share of the weight. -/
theorem found_eq (a1 : Vec Ideal S3584x128x2 .i8) (a2 : Vec Ideal S2x256x8 .i8) (q : Fin 2) (k : Fin 1024) (o : Fin 3584) :
    found a1 (table a2) q k o = Cert.KernelIdeal.Hand.share a1 a2 q k o := rfl

theorem equation (a0 : FVec Ideal S5x384x1024 .bf16) (a1 : Vec Ideal S3584x128x2 .i8) (a2 : Vec Ideal S2x256x8 .i8) (a3 : FVec Ideal S3584 .f32) :
    val_main_v26 (F := Ideal) a0 a1 a3 (table a2) = Cert.KernelIdeal.Hand.layer a0 a1 a2 a3 := by
  funext i
  obtain ⟨b, s, o, rfl⟩ : ∃ b s o, i = ValueIdx.ix3 b s o := ⟨i 0, i 1, i 2, ValueIdx.eq_ix3 i⟩
  rw [v26_at]
  simp only [found_eq]
  rfl

variable (m : (ℓ : Loc nD τ sig) → Buf (Elt Ideal) ℓ)

/-- The reference's run ends with the kernel's function of its own arguments. -/
theorem run (ρ : Dev nD → PrngReg) :
    θ_run defs (onTc (τ := τ) (main (F := Ideal))) ⟨m, fun _ => 0, ρ⟩ fun r => ∀ c : Dev nD,
      r.2.mem ((c : Thread nD τ).loc main_v26) = Cert.KernelIdeal.Hand.layer (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans ?_, (h c).2⟩) (Value.run m ρ)
  have e := val_main_v26_eq (F := Ideal) (Value.exitV m c)
  rw [Value.exit_main_arg0, Value.exit_main_arg1, Value.exit_main_arg3, Value.exit_main_v1] at e
  refine e.trans ?_
  rw [reg_eq, equation]

end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Both programs run and leave one result: the function of the arguments that Array.lean names. -/
theorem agree : Cert.algebraic_KernelIdeal_ReferenceIdeal := fun m g m' g' _ hargs =>
  ⟨fun c => Cert.KernelIdeal.Hand.layer (m (c.tc.loc Cert.KernelIdeal.main_arg0)) (m (c.tc.loc Cert.KernelIdeal.main_arg1))
      (m (c.tc.loc Cert.KernelIdeal.main_arg2)) (m (c.tc.loc Cert.KernelIdeal.main_arg3)),
    Cert.KernelIdeal.Hand.run m g,
    by
      refine (θ_run Cert.ReferenceIdeal.defs _ _).mono (fun r h c => ?_) (Cert.ReferenceIdeal.Hand.run m' g')
      refine ⟨(h c).1.trans ?_, (h c).2⟩
      obtain ⟨h0, h1, h2, h3⟩ := hargs c
      rw [h0, h1, h2, h3]⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, agree⟩

end Cert.Proof

end
